-- ==== Defs.lean ====
def Pre_Kernel [hPre_offset_in_first_block : Cert.Pre_offset_in_first_block.Facts] (m : (ℓ : Loc Cert.Kernel.nD Cert.Kernel.τ Cert.Kernel.sig) → Buf (Elt Bits) ℓ) : Prop :=
  ∀ c : Dev Cert.Kernel.nD,
    (Cert.Pre_offset_in_first_block.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_offset_in_first_block : Cert.Pre_offset_in_first_block.Facts] (m : (ℓ : Loc Cert.KernelIdeal.nD Cert.KernelIdeal.τ Cert.KernelIdeal.sig) → Buf (Elt Ideal) ℓ) : Prop :=
  ∀ c : Dev Cert.KernelIdeal.nD,
    (Cert.Pre_offset_in_first_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_offset_is_zero [hPre_offset_is_zero : Cert.Pre_offset_is_zero.Facts] (m : (ℓ : Loc Cert.KernelIdeal.nD Cert.KernelIdeal.τ Cert.KernelIdeal.sig) → Buf (Elt Ideal) ℓ) : Prop :=
  ∀ c : Dev Cert.KernelIdeal.nD,
    (Cert.Pre_offset_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offset_is_zero [hPre_offset_is_zero : Cert.Pre_offset_is_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offset_is_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_offset_in_first_block : Cert.Pre_offset_in_first_block.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_offset_in_first_block : Cert.Pre_offset_in_first_block.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_offset_is_zero [hKernelIdeal : Cert.KernelIdeal.Facts] [hPre_offset_is_zero : Cert.Pre_offset_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offset_is_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_offset_is_zero [hReferenceIdeal : Cert.ReferenceIdeal.Facts] [hPre_offset_is_zero : Cert.Pre_offset_is_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offset_is_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_offset_is_zero [hKernelIdeal : Cert.KernelIdeal.Facts] [hReferenceIdeal : Cert.ReferenceIdeal.Facts] [hPre_offset_is_zero : Cert.Pre_offset_is_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offset_is_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_offset_in_first_block : Cert.Pre_offset_in_first_block.Facts) (hPre_offset_is_zero : Cert.Pre_offset_is_zero.Facts),
    quiescent_Kernel (hKernel := hKernel) (hPre_offset_in_first_block := hPre_offset_in_first_block)
    ∧ quiescent_KernelIdeal (hKernelIdeal := hKernelIdeal) (hPre_offset_in_first_block := hPre_offset_in_first_block)
    ∧ quiescent_KernelIdeal_pre_offset_is_zero (hKernelIdeal := hKernelIdeal) (hPre_offset_is_zero := hPre_offset_is_zero)
    ∧ quiescent_ReferenceIdeal (hReferenceIdeal := hReferenceIdeal)
    ∧ quiescent_ReferenceIdeal_pre_offset_is_zero (hReferenceIdeal := hReferenceIdeal) (hPre_offset_is_zero := hPre_offset_is_zero)
    ∧ preserves_Kernel_KernelIdeal
    ∧ algebraic_KernelIdeal_ReferenceIdeal_pre_offset_is_zero (hKernelIdeal := hKernelIdeal) (hReferenceIdeal := hReferenceIdeal) (hPre_offset_is_zero := hPre_offset_is_zero)
-- ==== Pre_offset_in_first_block.lean ====
abbrev S4x8192x1024 : Shape := ⟨3, ![4, 8192, 1024]⟩
abbrev S_ : Shape := ⟨0, ![]⟩
abbrev S8192x1024 : Shape := ⟨2, ![8192, 1024]⟩

class Facts : Prop where

variable [Facts]

def fn {F : FTy → Type} [FloatOps F] (main_arg0 : FVec F S4x8192x1024 .f32) (main_arg1 : IVec S_ 32) (main_arg2 : FVec F S8192x1024 .f32) : IVec S_ 1 :=
  let main_c : IVec S_ 32 := constantI S_ 32 0#32
  let main_v0 : IVec S_ 1 := cmpi .sge main_arg1 main_c
  let main_c_0 : IVec S_ 32 := constantI S_ 32 512#32
  let main_v1 : IVec S_ 1 := cmpi .slt main_arg1 main_c_0
  let main_v2 : IVec S_ 1 := andi main_v0 main_v1
  main_v2
-- ==== Pre_offset_is_zero.lean ====
abbrev S4x8192x1024 : Shape := ⟨3, ![4, 8192, 1024]⟩
abbrev S_ : Shape := ⟨0, ![]⟩
abbrev S8192x1024 : Shape := ⟨2, ![8192, 1024]⟩

class Facts : Prop where

variable [Facts]

def fn {F : FTy → Type} [FloatOps F] (main_arg0 : FVec F S4x8192x1024 .f32) (main_arg1 : IVec S_ 32) (main_arg2 : FVec F S8192x1024 .f32) : IVec S_ 1 :=
  let main_c : IVec S_ 32 := constantI S_ 32 0#32
  let main_v0 : IVec S_ 1 := cmpi .eq main_arg1 main_c
  main_v0
-- ==== Kernel.lean ====
abbrev S4x8192x1024 : Shape := ⟨3, ![4, 8192, 1024]⟩
abbrev S_ : Shape := ⟨0, ![]⟩
abbrev S8192x1024 : Shape := ⟨2, ![8192, 1024]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x8192x1024, .f32⟩
  | .hbm, ⟨1, _⟩ => ⟨S_, .i32⟩
  | .hbm, ⟨2, _⟩ => ⟨S8192x1024, .f32⟩
  | .hbm, ⟨3, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .smem, ⟨0, _⟩ => ⟨S1, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi arg0 v17
  let c0_i32_4 : BitVec 32 := 0#32
  let c0_i32_5 : BitVec 32 := 0#32
  ![v18.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x1024 : Shape := ⟨3, ![4, 8192, 1024]⟩
abbrev S_ : Shape := ⟨0, ![]⟩
abbrev S8192x1024 : Shape := ⟨2, ![8192, 1024]⟩
abbrev S8192 : Shape := ⟨1, ![8192]⟩
abbrev S1x8192 : Shape := ⟨2, ![1, 8192]⟩
abbrev S4x8192 : Shape := ⟨2, ![4, 8192]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S_, .i32⟩
  | .hbm, ⟨2, _⟩ => ⟨S8192x1024, .f32⟩
  | .hbm, ⟨3, _⟩ => ⟨S8192, .i32⟩
  | .hbm, ⟨4, _⟩ => ⟨S8192, .i32⟩
  | .hbm, ⟨5, _⟩ => ⟨S8192, .i32⟩
  | .hbm, ⟨6, _⟩ => ⟨S1x8192, .i32⟩
  | .hbm, ⟨7, _⟩ => ⟨S4x8192, .i32⟩
  | .hbm, ⟨8, _⟩ => ⟨S_, .i32⟩
  | .hbm, ⟨9, _⟩ => ⟨S4x8192, .i32⟩
  | .hbm, ⟨10, _⟩ => ⟨S4x8192, .i1⟩
  | .hbm, ⟨11, _⟩ => ⟨S_, .i32⟩
  | .hbm, ⟨12, _⟩ => ⟨S4x8192, .i32⟩
  | .hbm, ⟨13, _⟩ => ⟨S4x8192, .i32⟩
  | .hbm, ⟨14, _⟩ => ⟨S4x8192, .i32⟩
  | .hbm, ⟨15, _⟩ => ⟨S4x8192x1, .i32⟩
  | .hbm, ⟨16, _⟩ => ⟨S1, .i32⟩
  | .hbm, ⟨17, _⟩ => ⟨S_, .i32⟩
  | .hbm, ⟨18, _⟩ => ⟨S4x8192x1, .i32⟩
  | .hbm, ⟨19, _⟩ => ⟨S4x8192x1, .i1⟩
  | .hbm, ⟨20, _⟩ => ⟨S1x1x1, .i32⟩
  | .hbm, ⟨21, _⟩ => ⟨S4x8192x1, .i32⟩
  | .hbm, ⟨22, _⟩ => ⟨S4x8192x1, .i1⟩
  | .hbm, ⟨23, _⟩ => ⟨S4x8192x1, .i1⟩
  | .hbm, ⟨24, _⟩ => ⟨S_, .i1⟩
  | .hbm, ⟨25, _⟩ => ⟨S4x8192, .i1⟩
  | .hbm, ⟨26, _⟩ => ⟨S4x8192x1024, .f32⟩
  | .hbm, ⟨27, _⟩ => ⟨S4x8192x1024, .i1⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Proof.Offset.lean ====
/- The offset's word: what the two preconditions say of it, and the block that the kernel's index map makes of it. -/
module

public import proofs.«01_k».proof.Defs
public import proofs.«01_k».proof.Proof.Gen.Kernel.Frame
public import proofs.«01_k».proof.Proof.Gen.KernelIdeal.Frame
public import proofs.«01_k».proof.Proof.Gen.Pre_offset_in_first_block
public import proofs.«01_k».proof.Proof.Gen.Pre_offset_is_zero

@[expose] public section

namespace Cert.Offset

open Idealize.ShloMosaic Idealize.ShloMosaic.TcCoe

/-- `off // 512` as the index map computes it: the quotient rounded towards zero, less one where the signs of `off` and
    512 differ and the remainder is not zero. -/
def firstBlock (off : BitVec 32) : BitVec 32 :=
  Scalar.select
    (Scalar.andi
      (Scalar.cmpi .ne
        (Scalar.subi (Scalar.extui (Scalar.cmpi .sgt off 0#32)) (Scalar.extui (Scalar.cmpi .slt off 0#32)))
        (Scalar.subi (Scalar.extui (Scalar.cmpi .sgt 512#32 0#32)) (Scalar.extui (Scalar.cmpi .slt 512#32 0#32))))
      (Scalar.cmpi .ne (Scalar.remsi off 512#32) 0#32))
    (Scalar.subi (Scalar.divsi off 512#32) 1#32) (Scalar.divsi off 512#32)

/-- An offset in [0, 512) names block 0 of the table. -/
theorem firstBlock_eq_zero (off : BitVec 32) (h : off.toNat < 512) : firstBlock off = 0#32 := by
  have all : ∀ n : Fin 512, firstBlock (BitVec.ofNat 32 n.val) = 0#32 := by decide +kernel
  simpa using all ⟨off.toNat, h⟩

/-- The index map's row of blocks at grid row `j`: block `j` for an offset in [0, 512). -/
theorem row_block (j : Nat) (hj : j < 16) (off : BitVec 32) (h : off.toNat < 512) :
    (Scalar.addi (BitVec.ofNat 32 j) (firstBlock off)).toNat = j := by
  rw [firstBlock_eq_zero off h]
  simp only [Scalar.addi, IntOp.addi, BitVec.add_zero, BitVec.toNat_ofNat]
  omega

/-- What `offset_in_first_block` says: the offset's word, read unsigned, is below 512. -/
theorem lt_of_in_first_block {F : FTy → Type} [FloatOps F] {x : FVec F Pre_offset_in_first_block.S4x8192x1024 .f32}
    {off : IVec Pre_offset_in_first_block.S_ 32} {pe : FVec F Pre_offset_in_first_block.S8192x1024 .f32}
    (h : Pre_offset_in_first_block.fn (F := F) x off pe = fun _ => 1#1) (i : Pre_offset_in_first_block.S_.Idx) :
    (off i).toNat < 512 := by
  have both : ∀ a b : BitVec 1, IntOp.andi a b = 1#1 → a = 1#1 ∧ b = 1#1 := by decide
  have bit : ∀ p : Bool, BitVec.ofBool p = 1#1 → p = true := by decide
  have e := both _ _ (congrFun h i)
  have lo : (0 : Int) ≤ (off i).toInt := BitVec.sle_iff_toInt_le.1 (bit _ e.1)
  have hi : (off i).toInt < 512 :=  BitVec.slt_iff_toInt_lt.1 (bit _ e.2)
  rw [BitVec.toInt_eq_toNat_cond] at lo hi
  split at lo <;> omega

/-- What `offset_is_zero` says: the offset's word is 0. -/
theorem eq_zero_of_is_zero {F : FTy → Type} [FloatOps F] {x : FVec F Pre_offset_is_zero.S4x8192x1024 .f32}
    {off : IVec Pre_offset_is_zero.S_ 32} {pe : FVec F Pre_offset_is_zero.S8192x1024 .f32}
    (h : Pre_offset_is_zero.fn (F := F) x off pe = fun _ => 1#1) (i : Pre_offset_is_zero.S_.Idx) : off i = 0#32 := by
  have bit : ∀ p : Bool, BitVec.ofBool p = 1#1 → p = true := by decide
  exact eq_of_beq (bit _ (congrFun h i))

end Cert.Offset

/-! The same two facts for each of the two programs, in the same words: the table's one word is the offset, and at an offset
    in [0, 512) every block that the kernel names in `pos_embedding` is inside it. -/

namespace Cert.Kernel.Offset

open Idealize.ShloMosaic Idealize.ShloMosaic.TcCoe Cert.Kernel.Gen

variable {F : FTy → Type} [FloatOps F] (m : (ℓ : Loc nD τ sig) → Buf (Elt F) ℓ)

/-- The word that the index map reads is the offset argument's one word. -/
theorem word_eq (c : Dev nD) (x : S1.Idx) : ∃ i : S_.Idx, tbl m 0 x = m ((c : Thread nD τ).loc main_arg1) i := by
  obtain rfl : c = 0 := Subsingleton.elim _ _
  exact ⟨S_.reshapeEquiv shapeCasts_S_S1 x, rfl⟩

/-- For an offset in [0, 512) the window of `pos_embedding` at grid point (j, b) is the table's block `j`. -/
theorem block_eq (hw : ∀ x, (tbl m 0 x).toNat < 512) (i : grid0.Coords) :
    cc0_transform_1 inb_S1_S1_0 numel1_S1 (tbl m) i = ![(i 0).val, 0] := by
  show ![(Scalar.addi (BitVec.ofNat 32 (i 0).val) (Cert.Offset.firstBlock (tbl m 0 _))).toNat, 0] = _
  rw [Cert.Offset.row_block _ (i 0).isLt _ (hw _)]

/-- So every block is inside the table. -/
theorem ok_of_lt (hw : ∀ x, (tbl m 0 x).toNat < 512) : Ok m := by
  intro i
  refine ⟨fun a => ?_, .inl rfl⟩
  rw [block_eq m hw i]
  have hj : (i 0).val < 16 := (i 0).isLt
  fin_cases a
  · show ((i 0).val + 1) * 512 ≤ 8192
    omega
  · show (0 + 1) * 1024 ≤ 1024
    omega

/-- Under `offset_in_first_block` every block is inside the table. -/
theorem ok_of_pre (m : (ℓ : Loc nD τ sig) → Buf (Elt Bits) ℓ) (h : Cert.Pre_Kernel m) : Ok m :=
  ok_of_lt m fun x => by
    obtain ⟨i, e⟩ := word_eq m 0 x
    rw [e]
    exact Cert.Offset.lt_of_in_first_block (h 0) i

end Cert.Kernel.Offset

namespace Cert.KernelIdeal.Offset

open Idealize.ShloMosaic Idealize.ShloMosaic.TcCoe Cert.KernelIdeal.Gen

variable {F : FTy → Type} [FloatOps F] (m : (ℓ : Loc nD τ sig) → Buf (Elt F) ℓ)

/-- The word that the index map reads is the offset argument's one word. -/
theorem word_eq (c : Dev nD) (x : S1.Idx) : ∃ i : S_.Idx, tbl m 0 x = m ((c : Thread nD τ).loc main_arg1) i := by
  obtain rfl : c = 0 := Subsingleton.elim _ _
  exact ⟨S_.reshapeEquiv shapeCasts_S_S1 x, rfl⟩

/-- For an offset in [0, 512) the window of `pos_embedding` at grid point (j, b) is the table's block `j`. -/
theorem block_eq (hw : ∀ x, (tbl m 0 x).toNat < 512) (i : grid0.Coords) :
    cc0_transform_1 inb_S1_S1_0 numel1_S1 (tbl m) i = ![(i 0).val, 0] := by
  show ![(Scalar.addi (BitVec.ofNat 32 (i 0).val) (Cert.Offset.firstBlock (tbl m 0 _))).toNat, 0] = _
  rw [Cert.Offset.row_block _ (i 0).isLt _ (hw _)]

/-- So every block is inside the table. -/
theorem ok_of_lt (hw : ∀ x, (tbl m 0 x).toNat < 512) : Ok m := by
  intro i
  refine ⟨fun a => ?_, .inl rfl⟩
  rw [block_eq m hw i]
  have hj : (i 0).val < 16 := (i 0).isLt
  fin_cases a
  · show ((i 0).val + 1) * 512 ≤ 8192
    omega
  · show (0 + 1) * 1024 ≤ 1024
    omega

/-- Under `offset_in_first_block` every block is inside the table. -/
theorem ok_of_pre (m : (ℓ : Loc nD τ sig) → Buf (Elt Ideal) ℓ) (h : Cert.Pre_KernelIdeal m) : Ok m :=
  ok_of_lt m fun x => by
    obtain ⟨i, e⟩ := word_eq m 0 x
    rw [e]
    exact Cert.Offset.lt_of_in_first_block (h 0) i

/-- Under `offset_is_zero` the word that the index map reads is 0. -/
theorem word_zero (m : (ℓ : Loc nD τ sig) → Buf (Elt Ideal) ℓ) (h : Cert.Pre_KernelIdeal_offset_is_zero m) (x : S1.Idx) :
    tbl m 0 x = 0#32 := by
  obtain ⟨i, e⟩ := word_eq m 0 x
  rw [e]
  exact Cert.Offset.eq_zero_of_is_zero (h 0) i

/-- So it is below 512. -/
theorem word_lt (m : (ℓ : Loc nD τ sig) → Buf (Elt Ideal) ℓ) (h : Cert.Pre_KernelIdeal_offset_is_zero m) (x : S1.Idx) :
    (tbl m 0 x).toNat < 512 := by
  rw [word_zero m h x]
  decide

/-- Under `offset_is_zero` every block is inside the table. -/
theorem ok_of_zero (m : (ℓ : Loc nD τ sig) → Buf (Elt Ideal) ℓ) (h : Cert.Pre_KernelIdeal_offset_is_zero m) : Ok m :=
  ok_of_lt m (word_lt m h)

end Cert.KernelIdeal.Offset
-- ==== Proof.KernelValue.lean ====
/- What the kernel's result array holds when every block of `pos_embedding` is the one of the same row block: the two
   arrays' sum, row by row. -/
module

public import proofs.«01_k».proof.Proof.Offset
public import Idealize.ShloMosaic.Lib.Claim
public import Idealize.ShloMosaic.Lib.Pipeline.Covers
public import Idealize.ShloMosaic.Lib.Pipeline.Value
public import Idealize.ShloMosaic.Lib.Pipeline.ValueKit
public import Idealize.ShloMosaic.Lib.ValueIdxCore

@[expose] public section

noncomputable section

namespace Cert.KernelIdeal.Sum

open Idealize.ShloMosaic Idealize.ShloMosaic.TcCoe Idealize.SL.Sem
open Cert.KernelIdeal.Gen

variable {F : FTy → Type} [FloatOps F] (m : (ℓ : Loc nD τ sig) → Buf (Elt F) ℓ)

/-- The sum that the result array holds: at batch `b`, row `t`, column `d` it is `x[b, t, d] + pe[t, d]`. -/
def total (x : FVec F S4x8192x1024 .f32) (pe : FVec F S8192x1024 .f32) : FVec F S4x8192x1024 .f32 :=
  fun i => FloatOps.addf (x i) (pe (ix2 (i 1) (i 2)))

/-- The body reads and writes the blocks of three axes from index 0 on every axis, -/
theorem hz3 : (![0, 0, 0] : Fin 3 → Nat) = fun _ => 0 := funext fun a => by fin_cases a <;> rfl
/-- and the block of two axes too. -/
theorem hz2 : (![0, 0] : Fin 2 → Nat) = fun _ => 0 := funext fun a => by fin_cases a <;> rfl

/-- What one run of the body leaves in the result's block: `x`'s block plus the block of `pos_embedding`, seen as a block of
    one batch. -/
theorem body_sum (c : Dev nD) (i : grid0.Coords) (arg3 : Memref sig .tc .vmem S1x512x1024 .f32) (harg3 : arg3.IsWhole)
    (arg4 : Memref sig .tc .vmem S512x1024 .f32) (harg4 : arg4.IsWhole) (arg5 : Memref sig .tc .vmem S1x512x1024 .f32)
    (harg5 : arg5.IsWhole) (x0 : Vec F S1x512x1024 .f32) (x1 : Vec F S512x1024 .f32) (xt0 : TbBuf0 (F := F) c tbM0_0)
    (j : S1x512x1024.Idx) :
    out0_A_2 c i arg3 harg3 arg4 harg4 arg5 harg5 x0 x1 xt0 j = FloatOps.addf (x0 j) (x1 (ix2 (j 1) (j 2))) := by
  unfold out0_A_2
  rw [View.read_writes_eq_canon _ _ _ (cover0_A_2 c i arg3 harg3 arg4 harg4 arg5 harg5 x0 x1 xt0)]
  unfold kernelRun0_A
  rw [View.canon_unit_zero hz3]
  unfold k0_pay1
  rw [View.readAt_eq_ld, View.readAt_eq_ld, harg3.read_unread, harg4.read_unread,
    View.ld_unit_zero (S := S1x512x1024) hz3, View.ld_unit_zero (S := S512x1024) hz2]
  show FloatOps.addf (x0 j) (shapeCast S1x512x1024 x1 shapeCasts_S512x1024_S1x512x1024 j) = _
  refine congrArg _ ((shapeCast_addUnit_apply ![512, 1024] x1 _ j).trans (congrArg x1 ?_))
  funext a
  fin_cases a <;> rfl

/-- At grid point (j, b) the window of `x` is block (b, j, 0). -/
theorem index_x (i : grid0.Coords) : cc0_transform_0 i = ![(i 1).val, (i 0).val, 0] := by
  have h0 : (i 0).val < 16 := (i 0).isLt
  have h1 : (i 1).val < 4 := (i 1).isLt
  show ![(BitVec.ofNat 32 (i 1).val).toNat, (BitVec.ofNat 32 (i 0).val).toNat, 0] = _
  rw [BitVec.toNat_ofNat, BitVec.toNat_ofNat, Nat.mod_eq_of_lt (by omega), Nat.mod_eq_of_lt (by omega)]

/-- So is the result's window. -/
theorem index_out (i : grid0.Coords) : cc0_transform_2 i = ![(i 1).val, (i 0).val, 0] := index_x i

/-- The result's blocks cover its array. -/
theorem covers (a : (pcfg0 (F := F)).Adm) : ((cfg0 a).win 2).Covers := by
  refine ((cfg0 a).win 2).covers_of_indexMap_surj rfl (by show ∀ a, 0 < S1x512x1024.size a; decide) fun β => ?_
  have h0 : (β (0 : Fin 3)).val < (4 + 1 - 1) / 1 := (β (0 : Fin 3)).isLt
  have h1 : (β (1 : Fin 3)).val < (8192 + 512 - 1) / 512 := (β (1 : Fin 3)).isLt
  have h2 : (β (2 : Fin 3)).val < (1024 + 1024 - 1) / 1024 := (β (2 : Fin 3)).isLt
  let i : grid0.Coords := fun a => match a with | ⟨0, _⟩ => ⟨(β (1 : Fin 3)).val, h1⟩ | ⟨1, _⟩ => ⟨(β (0 : Fin 3)).val, h0⟩
  have e : ∀ b : Fin 3, cc0_transform_2 i b = (β b).val := by
    rw [index_out]
    intro b
    fin_cases b
    · rfl
    · rfl
    · show 0 = (β (2 : Fin 3)).val
      omega
  exact ⟨i, e⟩

/-- Where the index `y` of the result's block at point `t` lies in the result array. -/
abbrev place (hO : Ok m) (t : Fin (cfgM m hO).N) (y : S1x512x1024.Idx) : S4x8192x1024.Idx :=
  (((cfgM m hO).win 2).blk t).view.emb y

/-- The block of `x` that point `t` reads is the one at the result's place. -/
theorem x_block (hO : Ok m) (c : Dev nD) (t : Fin (cfgM m hO).N) (y : S1x512x1024.Idx) :
    iblk m hO c 0 t y = m ((c : Thread nD τ).loc main_arg0) (place m hO t y) := by
  show V m c main_arg0 (place m hO t y) = _
  rw [V_main_arg0]

/-- The block of `pos_embedding` that point `t` reads holds the rows of the result's place. -/
theorem pe_block (hw : ∀ x, (tbl m 0 x).toNat < 512) (hO : Ok m) (c : Dev nD) (t : Fin (cfgM m hO).N) (y : S1x512x1024.Idx) :
    iblk m hO c 1 t (ix2 (y 1) (y 2)) = m ((c : Thread nD τ).loc main_arg2)
      (ix2 (place m hO t y 1) (place m hO t y 2)) := by
  show V m c main_arg2 ((((cfgM m hO).win 1).blk t).view.emb (ix2 (y 1) (y 2))) = _
  rw [V_main_arg2]
  refine congrArg _ (funext fun a => Fin.ext ?_)
  have e1 := Offset.block_eq m hw (grid0.coords t)
  have e2 := index_out (grid0.coords t)
  match a with
  | ⟨0, _⟩ =>
    show cc0_transform_1 inb_S1_S1_0 numel1_S1 (tbl m) (grid0.coords t) 0 * 512 + 1 * (y 1).val
      = cc0_transform_2 (grid0.coords t) 1 * 512 + 1 * (y 1).val
    rw [e1, e2]
    rfl
  | ⟨1, _⟩ =>
    show cc0_transform_1 inb_S1_S1_0 numel1_S1 (tbl m) (grid0.coords t) 1 * 1024 + 1 * (y 2).val
      = cc0_transform_2 (grid0.coords t) 2 * 1024 + 1 * (y 2).val
    rw [e1, e2]
    rfl

/-- What point `t` leaves in the result's block is the sum at the block's place. -/
theorem point_sum (hw : ∀ x, (tbl m 0 x).toNat < 512) (hO : Ok m) (c : Dev nD) (t : Fin (cfgM m hO).N) (y : S1x512x1024.Idx) :
    outsAt0 m hO c t y = total (m ((c : Thread nD τ).loc main_arg0)) (m ((c : Thread nD τ).loc main_arg2))
      (place m hO t y) := by
  unfold outsAt0
  exact (body_sum c _ _ _ _ _ _ _ (iblk m hO c 0 t) (iblk m hO c 1 t) _ y).trans
    (congrArg₂ FloatOps.addf (x_block m hO c t y) (pe_block m hw hO c t y))

/-- The result array after the launch, when the offset is in [0, 512): the sum. -/
theorem final (hw : ∀ x, (tbl m 0 x).toNat < 512) (hO : Ok m) (c : Dev nD) :
    (dats m hO 0 c).arrAt 2 (cfgM m hO).N = total (m ((c : Thread nD τ).loc main_arg0)) (m ((c : Thread nD τ).loc main_arg2)) :=
  (dats m hO 0 c).arrAt_eq_of_covers 2 _ (covers (adm m hO))
    (fun t _ y => (congrFun (after0_2 m hO c t) y).trans (point_sum m hw hO c t y))
    (Memref.isWhole_whole main_v1)

/-- The kernel's run at offset 0: the result array ends at the sum and the arguments are unchanged. -/
theorem run (m : (ℓ : Loc nD τ sig) → Buf (Elt Ideal) ℓ) (ρ : Dev nD → PrngReg) (h : Cert.Pre_KernelIdeal_offset_is_zero m) :
    θ_run defs (onTc (τ := τ) (main (F := Ideal))) ⟨m, fun _ => 0, ρ⟩ fun r => ∀ c : Dev nD,
      r.2.mem ((c.tc : Thread nD τ).loc main_v1)
          = total (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have hO := Offset.ok_of_zero m h
  (θ_run defs _ _).mono
    (fun _ e c => ⟨((e.1 c).1 2).trans (final m (Offset.word_lt m h) hO c), e.2 c⟩)
    (θ_run_and (run_main m ρ hO) (unchanged m ρ hO))

end Cert.KernelIdeal.Sum

end
-- ==== Proof.ReferenceValue.lean ====
/- What the reference computes at offset 0: row `t` of the table is looked up at row `t`, and no row is out of range. -/
module

public import proofs.«01_k».proof.Proof.Gen.ReferenceIdeal
public import proofs.«01_k».proof.Proof.Gen.ReferenceIdeal.Run
public import Idealize.ShloMosaic.Lib.Quiescent
public import Idealize.ShloMosaic.Lib.ReduceAll
public import Idealize.ShloMosaic.Lib.Pointwise.Index

@[expose] public section

noncomputable section

namespace Cert.ReferenceIdeal.Lookup

open Idealize.ShloMosaic Idealize.ShloMosaic.TcCoe Idealize.SL.Sem
open Cert.ReferenceIdeal.Gen

variable {F : FTy → Type} [FloatOps F]

/-- The row numbers that the reference looks up, before negative ones are wrapped: row `t` asks for row `t + off`. -/
def asked (off : IVec S_ 32) : IVec S4x8192 32 :=
  broadcastInDim S4x8192 ![0, 1] bcast_S1x8192_S4x8192_0_1
    (broadcastInDim S1x8192 ![1] bcast_S8192_S1x8192_1 (addi (iotaInDim S8192 32 0) (broadcastInDim S8192 ![] bcast_S_S8192 off)))

/-- The row numbers after the wrap. -/
def wrapped (off : IVec S_ 32) : IVec S4x8192 32 :=
  select (cmpi .slt (asked off) (broadcastInDim S4x8192 ![] bcast_S_S4x8192 (constantI S_ 32 0#32)))
    (addi (asked off) (broadcastInDim S4x8192 ![] bcast_S_S4x8192 (constantI S_ 32 8192#32))) (asked off)

/-- The same, one start index per batch and row. -/
def rows (off : IVec S_ 32) : IVec S4x8192x1 32 :=
  broadcastInDim S4x8192x1 ![0, 1] bcast_S4x8192_S4x8192x1_0_1 (wrapped off)

/-- Whether a row number is inside the table, one bit per batch and row. -/
def inside (off : IVec S_ 32) : IVec S4x8192 1 :=
  Host.reduce IntOp.andi
    (andi (cmpi .sge (rows off) (broadcastInDim S4x8192x1 ![] bcast_S_S4x8192x1 (constantI S_ 32 0#32)))
      (cmpi .sle (rows off) (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The reference's result: `x` plus the rows looked up, the fill value where a row is outside the table. -/
def result (x : FVec F S4x8192x1024 .f32) (off : IVec S_ 32) (pe : FVec F S8192x1024 .f32) : FVec F S4x8192x1024 .f32 :=
  addf x (select (broadcastInDim S4x8192x1024 ![0, 1] bcast_S4x8192_S4x8192x1024_0_1 (inside off))
    (Host.gather gather_S8192x1024_S4x8192x1_S4x8192x1024_2_0_n_n_0_2_11024 pe (rows off))
    (broadcastInDim S4x8192x1024 ![] bcast_S_S4x8192x1024 (constant S_ .f32 0x7FC00000#32)))

/-- A row number below 8192, as a 32-bit word read signed, is itself. -/
theorem toInt_row (n : Nat) (h : n < 8192) : (BitVec.ofNat 32 n).toInt = n := by
  rw [BitVec.toInt_eq_toNat_cond, BitVec.toNat_ofNat, Nat.mod_eq_of_lt (by omega), if_pos (by omega)]

/-- A row number in the table is not negative, so the wrap leaves it. -/
theorem wrap_row (n : Nat) (h : n < 8192) :
    Scalar.select (IntOp.cmpi .slt (BitVec.ofNat 32 n) 0#32) (IntOp.addi (BitVec.ofNat 32 n) 8192#32) (BitVec.ofNat 32 n)
      = BitVec.ofNat 32 n := by
  have e : IntOp.cmpi .slt (BitVec.ofNat 32 n) 0#32 = 0#1 := by
    show BitVec.ofBool ((BitVec.ofNat 32 n).slt 0#32) = 0#1
    rw [BitVec.slt, toInt_row n h, BitVec.toInt_zero, decide_eq_false (by omega)]
    rfl
  rw [e]
  rfl

/-- and it passes both of the range's tests. -/
theorem inside_row (n : Nat) (h : n < 8192) :
    IntOp.andi (IntOp.cmpi .sge (BitVec.ofNat 32 n) 0#32) (IntOp.cmpi .sle (BitVec.ofNat 32 n) 8191#32) = 1#1 := by
  show IntOp.andi (BitVec.ofBool ((0#32).sle (BitVec.ofNat 32 n))) (BitVec.ofBool ((BitVec.ofNat 32 n).sle (BitVec.ofNat 32 8191))) = 1#1
  rw [BitVec.sle, BitVec.sle, toInt_row n h, toInt_row 8191 (by omega), BitVec.toInt_zero, decide_eq_true (by omega),
    decide_eq_true (by omega)]
  rfl

/-- At offset 0 row `t` asks for row `t`. -/
theorem asked_at (off : IVec S_ 32) (h : ∀ i, off i = 0#32) (i : S4x8192.Idx) : asked off i = BitVec.ofNat 32 (i 1).val := by
  unfold asked
  rw [broadcastInDim, broadcastInDim, addi, iotaInDim, broadcastInDim, h]
  rw [IntOp.addi, BitVec.add_zero, dif_neg (by decide)]
  dsimp only
  rw [dif_neg (by decide)]
  rfl

/-- The wrap leaves it, -/
theorem wrapped_at (off : IVec S_ 32) (h : ∀ i, off i = 0#32) (i : S4x8192.Idx) :
    wrapped off i = BitVec.ofNat 32 (i 1).val := by
  have e := asked_at off h i
  unfold wrapped
  rw [select, cmpi, addi, broadcastInDim, broadcastInDim, constantI, constantI, e]
  exact wrap_row (i 1).val (i 1).isLt

/-- and it is the start index. -/
theorem rows_at (off : IVec S_ 32) (h : ∀ i, off i = 0#32) (i : S4x8192x1.Idx) : rows off i = BitVec.ofNat 32 (i 1).val := by
  unfold rows
  rw [broadcastInDim, wrapped_at off h, dif_neg (by decide)]
  rfl

/-- At offset 0 every row is inside the table. -/
theorem inside_at (off : IVec S_ 32) (h : ∀ i, off i = 0#32) (i : S4x8192.Idx) : inside off i = 1#1 := by
  refine Host.reduce_andi_one _ _ _ _ _ rfl fun k => ?_
  show IntOp.andi (IntOp.cmpi .sge (rows off k) 0#32) (IntOp.cmpi .sle (rows off k) 8191#32) = 1#1
  rw [rows_at off h k]
  exact inside_row (k 1).val (k 1).isLt

/-- Along the table's rows the lookup starts at the row number, when it is inside the table. -/
theorem start_rows (idx : IVec S4x8192x1 32) (h : ∀ k, idx k = BitVec.ofNat 32 (k 1).val) (i : S4x8192x1024.Idx) :
    gather_S8192x1024_S4x8192x1_S4x8192x1024_2_0_n_n_0_2_11024.start i idx (0 : Fin 2) = (i 1).val := by
  have hi : (i 1).val < 8192 := (i 1).isLt
  unfold GatherDims.start
  rw [dif_pos (show (0 : Fin 2) ∈ gather_S8192x1024_S4x8192x1_S4x8192x1024_2_0_n_n_0_2_11024.startIndexMap from
    List.mem_singleton.mpr rfl), h]
  show min (BitVec.ofNat 32 (i 1).val).toInt.toNat 8191 = (i 1).val
  rw [toInt_row _ hi, Int.toNat_natCast]
  omega

/-- Along its columns it starts at column 0, -/
theorem start_cols (idx : IVec S4x8192x1 32) (i : S4x8192x1024.Idx) :
    gather_S8192x1024_S4x8192x1_S4x8192x1024_2_0_n_n_0_2_11024.start i idx (1 : Fin 2) = 0 := by
  unfold GatherDims.start
  exact dif_neg (show (1 : Fin 2) ∉ [(0 : Fin 2)] by decide)

/-- takes one row, -/
theorem off_rows (i : S4x8192x1024.Idx) :
    gather_S8192x1024_S4x8192x1_S4x8192x1024_2_0_n_n_0_2_11024.offCoord i (0 : Fin 2) = 0 :=
  GatherDims.offCoord_eq_zero _ _ _ fun hk => ((GatherDims.mem_sKept _ _).mp hk).1 (List.mem_singleton.mpr rfl)

/-- and moves along the columns with the result's column. -/
theorem off_cols (i : S4x8192x1024.Idx) :
    gather_S8192x1024_S4x8192x1_S4x8192x1024_2_0_n_n_0_2_11024.offCoord i (1 : Fin 2) = (i 2).val := by
  unfold GatherDims.offCoord
  rw [dif_pos ((GatherDims.mem_sKept _ _).mpr ⟨show (1 : Fin 2) ∉ [(0 : Fin 2)] by decide, List.not_mem_nil⟩)]
  rfl

/-- The lookup at batch `b`, row `t`, column `d` reads the table's row `t`, column `d`, when the row number there is `t`. -/
theorem gather_at (pe : FVec F S8192x1024 .f32) (idx : IVec S4x8192x1 32)
    (h : ∀ k, idx k = BitVec.ofNat 32 (k 1).val) (i : S4x8192x1024.Idx) :
    Host.gather gather_S8192x1024_S4x8192x1_S4x8192x1024_2_0_n_n_0_2_11024 pe idx i = pe (ix2 (i 1) (i 2)) := by
  unfold Host.gather
  refine congrArg pe (funext fun a => Fin.ext ?_)
  show GatherDims.start _ i idx a + GatherDims.batchCoord _ i a + GatherDims.offCoord _ i a = _
  rw [GatherDims.batchCoord_eq_zero _ _ _ List.not_mem_nil, Nat.add_zero]
  match a with
  | ⟨0, _⟩ => exact congrArg₂ (· + ·) (start_rows idx h i) (off_rows i)
  | ⟨1, _⟩ => exact (congrArg₂ (· + ·) (start_cols idx i) (off_cols i)).trans (Nat.zero_add _)

/-- At offset 0 the reference's result at batch `b`, row `t`, column `d` is `x[b, t, d] + pe[t, d]`. -/
theorem result_at (x : FVec F S4x8192x1024 .f32) (off : IVec S_ 32) (pe : FVec F S8192x1024 .f32) (h : ∀ i, off i = 0#32)
    (i : S4x8192x1024.Idx) : result x off pe i = FloatOps.addf (x i) (pe (ix2 (i 1) (i 2))) := by
  unfold result
  rw [addf, select, gather_at pe _ (rows_at off h) i, broadcastInDim, inside_at off h]
  rfl

/-- The reference's run: the result array ends at `result` and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold result inside rows wrapped asked
  exact Value.run m ρ

/-- The reference ends with its arguments unchanged and every semaphore at zero: it has none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

end Cert.ReferenceIdeal.Lookup

end
-- ==== Proof.lean ====
module

public import proofs.«01_k».proof.Defs
public import proofs.«01_k».proof.Proof.Offset
public import proofs.«01_k».proof.Proof.KernelValue
public import proofs.«01_k».proof.Proof.ReferenceValue

@[expose] public section

noncomputable section

namespace Cert.Proof

open Idealize.ShloMosaic Idealize.ShloMosaic.TcCoe Idealize.SL.Sem

/-- At offset 0 kernel and reference, from equal arguments, end with equal results: `x[b, t, d] + pos_embedding[t, d]`. -/
theorem equal_results : Cert.algebraic_KernelIdeal_ReferenceIdeal_pre_offset_is_zero := by
  intro m g m' g' hpre hagree
  refine ⟨fun c => Cert.KernelIdeal.Sum.total (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg2)),
    Cert.KernelIdeal.Sum.run m g hpre, ?_⟩
  refine (θ_run Cert.ReferenceIdeal.defs _ _).mono (fun r h c => ⟨(h c).1.trans ?_, (h c).2⟩)
    (Cert.ReferenceIdeal.Lookup.run m' g')
  rw [(hagree c).1, (hagree c).2.1, (hagree c).2.2]
  exact funext (Cert.ReferenceIdeal.Lookup.result_at _ _ _ fun i => Cert.Offset.eq_zero_of_is_zero (hpre c) i)

/-- All the claims. -/
theorem claim : Cert.Claim :=
  ⟨Cert.Kernel.Gen.facts, Cert.KernelIdeal.Gen.facts, Cert.ReferenceIdeal.Gen.facts,
    Cert.Pre_offset_in_first_block.Gen.facts, Cert.Pre_offset_is_zero.Gen.facts,
    fun m ρ h => Cert.Kernel.Gen.frame m ρ (Cert.Kernel.Offset.ok_of_pre m h),
    fun m ρ h => Cert.KernelIdeal.Gen.frame m ρ (Cert.KernelIdeal.Offset.ok_of_pre m h),
    fun m ρ h => Cert.KernelIdeal.Gen.frame m ρ (Cert.KernelIdeal.Offset.ok_of_zero m h),
    fun m ρ _ => Cert.ReferenceIdeal.Lookup.frame m ρ,
    fun m ρ _ => Cert.ReferenceIdeal.Lookup.frame m ρ,
    trivial, equal_results⟩

end Cert.Proof

end
